-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S16384x16 : Shape := ⟨2, ![16384, 16]⟩
abbrev S128x256 : Shape := ⟨2, ![128, 256]⟩
abbrev S128x16 : Shape := ⟨2, ![128, 16]⟩
abbrev S_ : Shape := ⟨0, ![]⟩
abbrev S1x16 : Shape := ⟨2, ![1, 16]⟩
abbrev S16 : Shape := ⟨1, ![16]⟩

abbrev nBuf : Table → Nat
  | .hbm => 2
  | .local .scVector .vmem => 2
  | _ => 0

abbrev bufTy : (tb : Table) → Fin (nBuf tb) → BufTy
  | .hbm, ⟨0, _⟩ => ⟨S16384x256, .f32⟩
  | .hbm, ⟨1, _⟩ => ⟨S16384x16, .f32⟩
  | .local .scVector .vmem, ⟨0, _⟩ => ⟨S128x256, .f32⟩
  | .local .scVector .vmem, ⟨1, _⟩ => ⟨S128x16, .f32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg6 : BitVec 32 := Scf.iv c0_i32_0 c1_i32 k0_t1
  let c128_i32 : BitVec 32 := 128#32
  let v5 : BitVec 32 := Scalar.muli arg6 c128_i32
  let v6 : BitVec 32 := Scalar.addi v2 v5
  let c0_i32_8_r0 : BitVec 32 := 0#32
  ![v6.toNat, 0]
@[reducible] def k0_t2_loop : Scf.Loop 32 :=
  let c0_i32_3 : BitVec 32 := 0#32
  let c128_i32_4 : BitVec 32 := 128#32
  let v7 : BitVec 32 := Scalar.addi c0_i32_3 c128_i32_4
  let c1_i32_5 : BitVec 32 := 1#32
  ⟨c0_i32_3, v7, c1_i32_5⟩
def k0_off2 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v9 : Index := Scalar.indexCast arg8
  let c0 : Index := 0#32
  ![v9.toNat, 0]
def k0_off3 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v12 : Index := Scalar.indexCast arg8
  let c16 : Index := 16#32
  ![v12.toNat, 16]
def k0_off4 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v16 : Index := Scalar.indexCast arg8
  let c32 : Index := 32#32
  ![v16.toNat, 32]
def k0_off5 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v20 : Index := Scalar.indexCast arg8
  let c48 : Index := 48#32
  ![v20.toNat, 48]
def k0_off6 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v24 : Index := Scalar.indexCast arg8
  let c64 : Index := 64#32
  ![v24.toNat, 64]
def k0_off7 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v28 : Index := Scalar.indexCast arg8
  let c80 : Index := 80#32
  ![v28.toNat, 80]
def k0_off8 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v32 : Index := Scalar.indexCast arg8
  let c96 : Index := 96#32
  ![v32.toNat, 96]
def k0_off9 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v36 : Index := Scalar.indexCast arg8
  let c112 : Index := 112#32
  ![v36.toNat, 112]
def k0_off10 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v40 : Index := Scalar.indexCast arg8
  let c128 : Index := 128#32
  ![v40.toNat, 128]
def k0_off11 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v44 : Index := Scalar.indexCast arg8
  let c144 : Index := 144#32
  ![v44.toNat, 144]
def k0_off12 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v48 : Index := Scalar.indexCast arg8
  let c160 : Index := 160#32
  ![v48.toNat, 160]
def k0_off13 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v52 : Index := Scalar.indexCast arg8
  let c176 : Index := 176#32
  ![v52.toNat, 176]
def k0_off14 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v56 : Index := Scalar.indexCast arg8
  let c192 : Index := 192#32
  ![v56.toNat, 192]
def k0_off15 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v60 : Index := Scalar.indexCast arg8
  let c208 : Index := 208#32
  ![v60.toNat, 208]
def k0_off16 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v64 : Index := Scalar.indexCast arg8
  let c224 : Index := 224#32
  ![v64.toNat, 224]
def k0_off17 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v68 : Index := Scalar.indexCast arg8
  let c240 : Index := 240#32
  ![v68.toNat, 240]
def k0_off18 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let v72 : Index := Scalar.indexCast arg8
  let c0_8 : Index := 0#32
  ![v72.toNat, 0]
def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg6 : BitVec 32 := Scf.iv c0_i32_0 c1_i32 k0_t1
  let c128_i32 : BitVec 32 := 128#32
  let v5 : BitVec 32 := Scalar.muli arg6 c128_i32
  let v6 : BitVec 32 := Scalar.addi v2 v5
  let c0_i32_8_r1 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S16 : Shape := ⟨1, ![16]⟩
abbrev S_ : Shape := ⟨0, ![]⟩
abbrev S16x1 : Shape := ⟨2, ![16, 1]⟩
abbrev S16384x16 : Shape := ⟨2, ![16384, 16]⟩
abbrev S16384 : Shape := ⟨1, ![16384]⟩
abbrev S16384x1 : Shape := ⟨2, ![16384, 1]⟩

abbrev nBuf : Space → Nat
  | .hbm => 210
  | .vmem => 0
  | .smem => 0
  | _ => 0

abbrev hbmTy0_0 (i : Nat) : BufTy := match i % 128 with
  | 0 => ⟨S16384x256, .f32⟩
  | 1 => ⟨S16, .i32⟩
  | 2 => ⟨S16, .i32⟩
  | 3 => ⟨S16, .i32⟩
  | 4 => ⟨S16, .i32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S16, .i32⟩
  | 12 => ⟨S16, .i32⟩
  | 13 => ⟨S16, .i32⟩
  | 14 => ⟨S16, .i32⟩
  | 15 => ⟨S16, .i32⟩
  | 16 => ⟨S16, .i32⟩
  | 17 => ⟨S_, .i32⟩
  | 18 => ⟨S16, .i32⟩
  | 19 => ⟨S16, .i1⟩
  | 20 => ⟨S_, .i32⟩
  | 21 => ⟨S16, .i32⟩
  | 22 => ⟨S16, .i32⟩
  | 23 => ⟨S16, .i32⟩
  | 24 => ⟨S16x1, .i32⟩
  | 25 => ⟨S16384x16, .f32⟩
  | 26 => ⟨S_, .f32⟩
  | 27 => ⟨S16384, .f32⟩
  | 28 => ⟨S_, .i32⟩
  | 29 => ⟨S16, .i32⟩
  | 30 => ⟨S16, .i1⟩
  | 31 => ⟨S_, .i32⟩
  | 32 => ⟨S16, .i32⟩
  | 33 => ⟨S16, .i32⟩
  | 34 => ⟨S16, .i32⟩
  | 35 => ⟨S16x1, .i32⟩
  | 36 => ⟨S16384x16, .f32⟩
  | 37 => ⟨S_, .f32⟩
  | 38 => ⟨S16384, .f32⟩
  | 39 => ⟨S_, .i32⟩
  | 40 => ⟨S16, .i32⟩
  | 41 => ⟨S16, .i1⟩
  | 42 => ⟨S_, .i32⟩
  | 43 => ⟨S16, .i32⟩
  | 44 => ⟨S16, .i32⟩
  | 45 => ⟨S16, .i32⟩
  | 46 => ⟨S16x1, .i32⟩
  | 47 => ⟨S16384x16, .f32⟩
  | 48 => ⟨S_, .f32⟩
  | 49 => ⟨S16384, .f32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S16x1, .i32⟩
  | 58 => ⟨S16384x16, .f32⟩
  | 59 => ⟨S_, .f32⟩
  | 60 => ⟨S16384, .f32⟩
  | 61 => ⟨S_, .i32⟩
  | 62 => ⟨S16, .i32⟩
  | 63 => ⟨S16, .i1⟩
  | 64 => ⟨S_, .i32⟩
  | 65 => ⟨S16, .i32⟩
  | 66 => ⟨S16, .i32⟩
  | 67 => ⟨S16, .i32⟩
  | 68 => ⟨S16x1, .i32⟩
  | 69 => ⟨S16384x16, .f32⟩
  | 70 => ⟨S_, .f32⟩
  | 71 => ⟨S16384, .f32⟩
  | 72 => ⟨S_, .i32⟩
  | 73 => ⟨S16, .i32⟩
  | 74 => ⟨S16, .i1⟩
  | 75 => ⟨S_, .i32⟩
  | 76 => ⟨S16, .i32⟩
  | 77 => ⟨S16, .i32⟩
  | 78 => ⟨S16, .i32⟩
  | 79 => ⟨S16x1, .i32⟩
  | 80 => ⟨S16384x16, .f32⟩
  | 81 => ⟨S_, .f32⟩
  | 82 => ⟨S16384, .f32⟩
  | 83 => ⟨S_, .i32⟩
  | 84 => ⟨S16, .i32⟩
  | 85 => ⟨S16, .i1⟩
  | 86 => ⟨S_, .i32⟩
  | 87 => ⟨S16, .i32⟩
  | 88 => ⟨S16, .i32⟩
  | 89 => ⟨S16, .i32⟩
  | 90 => ⟨S16x1, .i32⟩
  | 91 => ⟨S16384x16, .f32⟩
  | 92 => ⟨S_, .f32⟩
  | 93 => ⟨S16384, .f32⟩
  | 94 => ⟨S_, .i32⟩
  | 95 => ⟨S16, .i32⟩
  | 96 => ⟨S16, .i1⟩
  | 97 => ⟨S_, .i32⟩
  | 98 => ⟨S16, .i32⟩
  | 99 => ⟨S16, .i32⟩
  | 100 => ⟨S16, .i32⟩
  | 101 => ⟨S16x1, .i32⟩
  | 102 => ⟨S16384x16, .f32⟩
  | 103 => ⟨S_, .f32⟩
  | 104 => ⟨S16384, .f32⟩
  | 105 => ⟨S_, .i32⟩
  | 106 => ⟨S16, .i32⟩
  | 107 => ⟨S16, .i1⟩
  | 108 => ⟨S_, .i32⟩
  | 109 => ⟨S16, .i32⟩
  | 110 => ⟨S16, .i32⟩
  | 111 => ⟨S16, .i32⟩
  | 112 => ⟨S16x1, .i32⟩
  | 113 => ⟨S16384x16, .f32⟩
  | 114 => ⟨S_, .f32⟩
  | 115 => ⟨S16384, .f32⟩
  | 116 => ⟨S_, .i32⟩
  | 117 => ⟨S16, .i32⟩
  | 118 => ⟨S16, .i1⟩
  | 119 => ⟨S_, .i32⟩
  | 120 => ⟨S16, .i32⟩
  | 121 => ⟨S16, .i32⟩
  | 122 => ⟨S16, .i32⟩
  | 123 => ⟨S16x1, .i32⟩
  | 124 => ⟨S16384x16, .f32⟩
  | 125 => ⟨S_, .f32⟩
  | 126 => ⟨S16384, .f32⟩
  | 127 => ⟨S_, .i32⟩
  | _ => ⟨S16384x256, .f32⟩

abbrev hbmTy0_1 (i : Nat) : BufTy := match i % 128 with
  | 0 => ⟨S16, .i32⟩
  | 1 => ⟨S16, .i1⟩
  | 2 => ⟨S_, .i32⟩
  | 3 => ⟨S16, .i32⟩
  | 4 => ⟨S16, .i32⟩
  | 5 => ⟨S16, .i32⟩
  | 6 => ⟨S16x1, .i32⟩
  | 7 => ⟨S16384x16, .f32⟩
  | 8 => ⟨S_, .f32⟩
  | 9 => ⟨S16384, .f32⟩
  | 10 => ⟨S_, .i32⟩
  | 11 => ⟨S16, .i32⟩
  | 12 => ⟨S16, .i1⟩
  | 13 => ⟨S_, .i32⟩
  | 14 => ⟨S16, .i32⟩
  | 15 => ⟨S16, .i32⟩
  | 16 => ⟨S16, .i32⟩
  | 17 => ⟨S16x1, .i32⟩
  | 18 => ⟨S16384x16, .f32⟩
  | 19 => ⟨S_, .f32⟩
  | 20 => ⟨S16384, .f32⟩
  | 21 => ⟨S_, .i32⟩
  | 22 => ⟨S16, .i32⟩
  | 23 => ⟨S16, .i1⟩
  | 24 => ⟨S_, .i32⟩
  | 25 => ⟨S16, .i32⟩
  | 26 => ⟨S16, .i32⟩
  | 27 => ⟨S16, .i32⟩
  | 28 => ⟨S16x1, .i32⟩
  | 29 => ⟨S16384x16, .f32⟩
  | 30 => ⟨S_, .f32⟩
  | 31 => ⟨S16384, .f32⟩
  | 32 => ⟨S_, .i32⟩
  | 33 => ⟨S16, .i32⟩
  | 34 => ⟨S16, .i1⟩
  | 35 => ⟨S_, .i32⟩
  | 36 => ⟨S16, .i32⟩
  | 37 => ⟨S16, .i32⟩
  | 38 => ⟨S16, .i32⟩
  | 39 => ⟨S16x1, .i32⟩
  | 40 => ⟨S16384x16, .f32⟩
  | 41 => ⟨S_, .f32⟩
  | 42 => ⟨S16384, .f32⟩
  | 43 => ⟨S_, .i32⟩
  | 44 => ⟨S16, .i32⟩
  | 45 => ⟨S16, .i1⟩
  | 46 => ⟨S_, .i32⟩
  | 47 => ⟨S16, .i32⟩
  | 48 => ⟨S16, .i32⟩
  | 49 => ⟨S16, .i32⟩
  | 50 => ⟨S16x1, .i32⟩
  | 51 => ⟨S16384x16, .f32⟩
  | 52 => ⟨S_, .f32⟩
  | 53 => ⟨S16384, .f32⟩
  | 54 => ⟨S_, .i32⟩
  | 55 => ⟨S16, .i32⟩
  | 56 => ⟨S16, .i1⟩
  | 57 => ⟨S_, .i32⟩
  | 58 => ⟨S16, .i32⟩
  | 59 => ⟨S16, .i32⟩
  | 60 => ⟨S16, .i32⟩
  | 61 => ⟨S16x1, .i32⟩
  | 62 => ⟨S16384x16, .f32⟩
  | 63 => ⟨S_, .f32⟩
  | 64 => ⟨S16384, .f32⟩
  | 65 => ⟨S16384x1, .f32⟩
  | 66 => ⟨S16384x1, .f32⟩
  | 67 => ⟨S16384x1, .f32⟩
  | 68 => ⟨S16384x1, .f32⟩
  | 69 => ⟨S16384x1, .f32⟩
  | 70 => ⟨S16384x1, .f32⟩
  | 71 => ⟨S16384x1, .f32⟩
  | 72 => ⟨S16384x1, .f32⟩
  | 73 => ⟨S16384x1, .f32⟩
  | 74 => ⟨S16384x1, .f32⟩
  | 75 => ⟨S16384x1, .f32⟩
  | 76 => ⟨S16384x1, .f32⟩
  | 77 => ⟨S16384x1, .f32⟩
  | 78 => ⟨S16384x1, .f32⟩
  | 79 => ⟨S16384x1, .f32⟩
  | 80 => ⟨S16384x1, .f32⟩
  | 81 => ⟨S16384x16, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_c_13 : Ref sig .tc := ⟨.hbm, 15, rfl⟩
abbrev main_c_14 : Ref sig .tc := ⟨.hbm, 16, rfl⟩
abbrev main_c_15 : Ref sig .tc := ⟨.hbm, 17, rfl⟩
abbrev main_v0 : Ref sig .tc := ⟨.hbm, 18, rfl⟩
abbrev main_v1 : Ref sig .tc := ⟨.hbm, 19, rfl⟩
abbrev main_c_16 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_c_17 : Ref sig .tc := ⟨.hbm, 28, rfl⟩
abbrev main_v8 : Ref sig .tc := ⟨.hbm, 29, rfl⟩
abbrev main_v9 : Ref sig .tc := ⟨.hbm, 30, rfl⟩
abbrev main_c_18 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_19 : Ref sig .tc := ⟨.hbm, 37, rfl⟩
abbrev main_v15 : Ref sig .tc := ⟨.hbm, 38, rfl⟩
abbrev main_c_20 : Ref sig .tc := ⟨.hbm, 39, rfl⟩
abbrev main_v16 : Ref sig .tc := ⟨.hbm, 40, rfl⟩
abbrev main_v17 : Ref sig .tc := ⟨.hbm, 41, rfl⟩
abbrev main_c_21 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_22 : Ref sig .tc := ⟨.hbm, 48, rfl⟩
abbrev main_v23 : Ref sig .tc := ⟨.hbm, 49, rfl⟩
abbrev main_c_23 : Ref sig .tc := ⟨.hbm, 50, rfl⟩
abbrev main_v24 : Ref sig .tc := ⟨.hbm, 51, rfl⟩
abbrev main_v25 : Ref sig .tc := ⟨.hbm, 52, rfl⟩
abbrev main_c_24 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_25 : Ref sig .tc := ⟨.hbm, 59, rfl⟩
abbrev main_v31 : Ref sig .tc := ⟨.hbm, 60, rfl⟩
abbrev main_c_26 : Ref sig .tc := ⟨.hbm, 61, rfl⟩
abbrev main_v32 : Ref sig .tc := ⟨.hbm, 62, rfl⟩
abbrev main_v33 : Ref sig .tc := ⟨.hbm, 63, rfl⟩
abbrev main_c_27 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_28 : Ref sig .tc := ⟨.hbm, 70, rfl⟩
abbrev main_v39 : Ref sig .tc := ⟨.hbm, 71, rfl⟩
abbrev main_c_29 : Ref sig .tc := ⟨.hbm, 72, rfl⟩
abbrev main_v40 : Ref sig .tc := ⟨.hbm, 73, rfl⟩
abbrev main_v41 : Ref sig .tc := ⟨.hbm, 74, rfl⟩
abbrev main_c_30 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_31 : Ref sig .tc := ⟨.hbm, 81, rfl⟩
abbrev main_v47 : Ref sig .tc := ⟨.hbm, 82, rfl⟩
abbrev main_c_32 : Ref sig .tc := ⟨.hbm, 83, rfl⟩
abbrev main_v48 : Ref sig .tc := ⟨.hbm, 84, rfl⟩
abbrev main_v49 : Ref sig .tc := ⟨.hbm, 85, rfl⟩
abbrev main_c_33 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_34 : Ref sig .tc := ⟨.hbm, 92, rfl⟩
abbrev main_v55 : Ref sig .tc := ⟨.hbm, 93, rfl⟩
abbrev main_c_35 : Ref sig .tc := ⟨.hbm, 94, rfl⟩
abbrev main_v56 : Ref sig .tc := ⟨.hbm, 95, rfl⟩
abbrev main_v57 : Ref sig .tc := ⟨.hbm, 96, rfl⟩
abbrev main_c_36 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_37 : Ref sig .tc := ⟨.hbm, 103, rfl⟩
abbrev main_v63 : Ref sig .tc := ⟨.hbm, 104, rfl⟩
abbrev main_c_38 : Ref sig .tc := ⟨.hbm, 105, rfl⟩
abbrev main_v64 : Ref sig .tc := ⟨.hbm, 106, rfl⟩
abbrev main_v65 : Ref sig .tc := ⟨.hbm, 107, rfl⟩
abbrev main_c_39 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_40 : Ref sig .tc := ⟨.hbm, 114, rfl⟩
abbrev main_v71 : Ref sig .tc := ⟨.hbm, 115, rfl⟩
abbrev main_c_41 : Ref sig .tc := ⟨.hbm, 116, rfl⟩
abbrev main_v72 : Ref sig .tc := ⟨.hbm, 117, rfl⟩
abbrev main_v73 : Ref sig .tc := ⟨.hbm, 118, rfl⟩
abbrev main_c_42 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_43 : Ref sig .tc := ⟨.hbm, 125, rfl⟩
abbrev main_v79 : Ref sig .tc := ⟨.hbm, 126, rfl⟩
abbrev main_c_44 : Ref sig .tc := ⟨.hbm, 127, rfl⟩
abbrev main_v80 : Ref sig .tc := ⟨.hbm, 128, rfl⟩
abbrev main_v81 : Ref sig .tc := ⟨.hbm, 129, rfl⟩
abbrev main_c_45 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_46 : Ref sig .tc := ⟨.hbm, 136, rfl⟩
abbrev main_v87 : Ref sig .tc := ⟨.hbm, 137, rfl⟩
abbrev main_c_47 : Ref sig .tc := ⟨.hbm, 138, rfl⟩
abbrev main_v88 : Ref sig .tc := ⟨.hbm, 139, rfl⟩
abbrev main_v89 : Ref sig .tc := ⟨.hbm, 140, rfl⟩
abbrev main_c_48 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_49 : Ref sig .tc := ⟨.hbm, 147, rfl⟩
abbrev main_v95 : Ref sig .tc := ⟨.hbm, 148, rfl⟩
abbrev main_c_50 : Ref sig .tc := ⟨.hbm, 149, rfl⟩
abbrev main_v96 : Ref sig .tc := ⟨.hbm, 150, rfl⟩
abbrev main_v97 : Ref sig .tc := ⟨.hbm, 151, rfl⟩
abbrev main_c_51 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_52 : Ref sig .tc := ⟨.hbm, 158, rfl⟩
abbrev main_v103 : Ref sig .tc := ⟨.hbm, 159, rfl⟩
abbrev main_c_53 : Ref sig .tc := ⟨.hbm, 160, rfl⟩
abbrev main_v104 : Ref sig .tc := ⟨.hbm, 161, rfl⟩
abbrev main_v105 : Ref sig .tc := ⟨.hbm, 162, rfl⟩
abbrev main_c_54 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_55 : Ref sig .tc := ⟨.hbm, 169, rfl⟩
abbrev main_v111 : Ref sig .tc := ⟨.hbm, 170, rfl⟩
abbrev main_c_56 : Ref sig .tc := ⟨.hbm, 171, rfl⟩
abbrev main_v112 : Ref sig .tc := ⟨.hbm, 172, rfl⟩
abbrev main_v113 : Ref sig .tc := ⟨.hbm, 173, rfl⟩
abbrev main_c_57 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_58 : Ref sig .tc := ⟨.hbm, 180, rfl⟩
abbrev main_v119 : Ref sig .tc := ⟨.hbm, 181, rfl⟩
abbrev main_c_59 : Ref sig .tc := ⟨.hbm, 182, rfl⟩
abbrev main_v120 : Ref sig .tc := ⟨.hbm, 183, rfl⟩
abbrev main_v121 : Ref sig .tc := ⟨.hbm, 184, rfl⟩
abbrev main_c_60 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_61 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩

abbrev nD : Nat := 1
abbrev τ : Topo := Topo.v7x

variable {F : FTy → Type} [FloatOps F]
-- ==== Proof.PoolIdeal.lean ====
/-
  The pooling kernel's run, values carried. Thirty-two tiles (two SparseCores of sixteen) each take 512 consecutive rows
  of `x` in four chunks of 128: a chunk is fetched into the tile's own memory, each of its rows is reduced to sixteen
  lanes (lane `a` the running maximum of columns `a, 16 + a, …, 240 + a`), and the 128 reduced rows are written out.
  Every tile reads `x` under a share of the whole array and owns its four blocks of the result outright.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueIdxCore
public import Idealize.ShloMosaic.Lib.ValueLayout
public import Idealize.ShloMosaic.Lib.WritesUnit
public import proofs.«01_k».proof.Proof.Gen.KernelIdeal
public import proofs.«01_k».proof.Proof.Gen.KernelIdeal.Skeleton

@[expose] public section

noncomputable section

namespace Cert.Proof.PoolIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The value: the running maximum of a row's residue class -/

section Value

variable [FloatOps F]

/-- The running maximum of `g 0, …, g n`, taken from the left. -/
def runMax (g : ℕ → F .f32) : ℕ → F .f32
  | 0 => g 0
  | n + 1 => FloatOps.maximumf (runMax g n) (g (n + 1))

/-- Row `r`'s maximum over the sixteen columns congruent to `a` modulo 16, taken in ascending order. -/
def pool {n : ℕ} (x : (⟨2, ![n, 256]⟩ : Shape).Idx → F .f32) (r : Fin n) (a : Fin 16) : F .f32 :=
  runMax (fun k => x (ix2 r ⟨(16 * k + a.val) % 256, Nat.mod_lt _ (by decide)⟩)) 15

/-- The whole pooled array, of `n` rows. -/
def pooled {n : ℕ} (x : (⟨2, ![n, 256]⟩ : Shape).Idx → F .f32) : (⟨2, ![n, 16]⟩ : Shape).Idx → F .f32 :=
  fun i => pool x (i 0) (i 1)

end Value

/-! ## The program as the launch theorem takes it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are what the launch theorem wants of them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S16384x256 EltTy.f32)
local notation "oV" => (Memref.whole Cert.KernelIdeal.main_v0_scv : Memref Cert.KernelIdeal.sig Kind.scVector Space.hbm Cert.KernelIdeal.S16384x16 EltTy.f32)
local notation "aV" => (Memref.whole Cert.KernelIdeal.cc0_scratch0 : Memref Cert.KernelIdeal.sig Kind.scVector Space.vmem Cert.KernelIdeal.S128x256 EltTy.f32)
local notation "bV" => (Memref.whole Cert.KernelIdeal.cc0_scratch1 : Memref Cert.KernelIdeal.sig Kind.scVector Space.vmem Cert.KernelIdeal.S128x16 EltTy.f32)

/-! ## What the handshakes carry -/

/-- The result's elements in block `b` of 128 rows. -/
def blk (b : ℕ) : Finset S16384x16.Idx := Finset.univ.filter fun i => (i 0).val / 128 = b

/-- The block that the task on tile `s` of SparseCore `c` writes in its chunk `t`. -/
abbrev bno (c : Fin 2) (s : Fin 16) (t : Fin 4) : ℕ := 8 * s.val + 4 * c.val + t.val

/-- That task's share of `x`. -/
abbrev xq (c : Fin 2) (s : Fin 16) : PosShare TreeShare := ShareLeaves.leaf 4 (ShareLeaves.leaf 1 fullShare c) s

/-- `x` under the task's share. -/
abbrev xPts (d : Dev nD) (c : Fin 2) (s : Fin 16) : sProp 𝕄 := xLoc d ↦{xq c s} m (xLoc d)
/-- The task's four blocks of the result, holding `f`. -/
abbrev oPts (d : Dev nD) (c : Fin 2) (s : Fin 16) (f : Buf (Elt F) (oLoc d)) : sProp 𝕄 :=
  bigSep Finset.univ fun t : Fin 4 => oLoc d ↦[blk (bno c s t)]{fullShare} f

variable [FloatOps F]

/-- The array the launch leaves in the result. -/
abbrev G (d : Dev nD) : Buf (Elt F) (oLoc d) := pooled (n := 16384) (m (xLoc d))

/-- Each SparseCore is handed what its sixteen tasks need and hands back what they leave: their shares of `x`, their
    blocks of the result, before the launch's own contents and after it the pooled rows. -/
def P : (K (F := F)).Pay (nD := nD) (Val := Elt F) (Name := ℕ) (U := UU) where
  st := fun q d c => match q with
    | 0 => bigSep Finset.univ fun s : Fin 16 => iprop(xPts m d (Fin.cast nCore_zero c) s ∗ oPts d (Fin.cast nCore_zero c) s (m (oLoc d)))
  dn := fun q d c => match q with
    | 0 => bigSep Finset.univ fun s : Fin 16 => iprop(xPts m d (Fin.cast nCore_zero c) s ∗ oPts d (Fin.cast nCore_zero c) s (G m d))
  go := fun q d c s => match q with
    | 0 => iprop(xPts m d (Fin.cast nCore_zero c) (Fin.cast nSub_zero s) ∗ oPts d (Fin.cast nCore_zero c) (Fin.cast nSub_zero s) (m (oLoc d)))
  td := fun q d c s => match q with
    | 0 => iprop(xPts m d (Fin.cast nCore_zero c) (Fin.cast nSub_zero s) ∗ oPts d (Fin.cast nCore_zero c) (Fin.cast nSub_zero s) (G m d))
  x := fun _ _ => iprop(emp)

instance P_storable : (P (F := F) m).IsStorable where
  st q d c := match q with
    | 0 => (inferInstance : BI.Storable (upEmb : UEmb _ 𝕄)
      (bigSep Finset.univ fun s : Fin 16 => iprop(xPts m d (Fin.cast nCore_zero c) s ∗ oPts d (Fin.cast nCore_zero c) s (m (oLoc d)))))
  dn q d c := match q with
    | 0 => (inferInstance : BI.Storable (upEmb : UEmb _ 𝕄)
      (bigSep Finset.univ fun s : Fin 16 => iprop(xPts m d (Fin.cast nCore_zero c) s ∗ oPts d (Fin.cast nCore_zero c) s (G m d))))
  go q d c s := match q with
    | 0 => (inferInstance : BI.Storable (upEmb : UEmb _ 𝕄)
      iprop(xPts m d (Fin.cast nCore_zero c) (Fin.cast nSub_zero s) ∗ oPts d (Fin.cast nCore_zero c) (Fin.cast nSub_zero s) (m (oLoc d))))
  td q d c s := match q with
    | 0 => (inferInstance : BI.Storable (upEmb : UEmb _ 𝕄)
      iprop(xPts m d (Fin.cast nCore_zero c) (Fin.cast nSub_zero s) ∗ oPts d (Fin.cast nCore_zero c) (Fin.cast nSub_zero s) (G m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

/-- The 128 rows of `x` that chunk `t` fetches, and the block of the result it writes, as the task addresses them. -/
abbrev xK (L : grid0.Coords) (t : Fin k0_t1_loop.trips) : Memref sig .scVector .hbm S128x256 .f32 :=
  (xV).slice (Rect.unit (s := S16384x256) (k0_off1 L t) S128x256.size (k0_off1_inb L t)) (fun _ => rfl)
abbrev oK (L : grid0.Coords) (t : Fin k0_t1_loop.trips) : Memref sig .scVector .hbm S128x16 .f32 :=
  (oV).slice (Rect.unit (s := S16384x16) (k0_off19 L t) S128x16.size (k0_off19_inb L t)) (fun _ => rfl)

abbrev tt (t : Fin k0_t1_loop.trips) : Fin 4 := ⟨t.val, lt_of_lt_of_le t.isLt k0_t1_abs.2.1⟩

omit [FloatOps F] in
/-- The block chunk `t` writes is block `8 s + 4 c + t`. -/
theorem set_oK (t : Fin k0_t1_loop.trips) : (oK L t).view.set = blk (bno (cL L) (sL L) (tt t)) := by
  ext i
  rw [show (oK L t).view.set = ((View.whole (main_v0_scv : Ref sig .scVector)).slice
      (Rect.unit (s := S16384x16) (k0_off19 L t) S128x16.size (k0_off19_inb L t))).set from rfl, View.set_slice]
  rw [show ∀ s : Finset S16384x16.Idx, Finset.map (View.whole (main_v0_scv : Ref sig .scVector)).emb s = s from fun s => Finset.map_refl]
  rw [Rect.mem_set_unit, k0_off19_eq]
  unfold blk
  simp only [Finset.mem_filter, Finset.mem_univ, true_and]
  have h1 := idx2_lt1 i
  have h0 := idx2_lt0 i
  have hb : bno (cL L) (sL L) (tt t) = 8 * (L 1).val + 4 * (L 0).val + t.val := rfl
  rw [hb]
  constructor
  · intro h
    have h := h 0
    simp at h ⊢
    omega
  · intro h a
    match a with
    | 0 => simp at h ⊢; omega
    | 1 => simp; omega

omit [FloatOps F] in
theorem pts_oK (t : Fin k0_t1_loop.trips) (f : Buf (Elt F) (oLoc d)) :
    ((oK L t).view.loc (V d (cV L) (jV L)) ↦[(oK L t).view.set]{fullShare} f : sProp 𝕄)
      = oLoc d ↦[blk (bno (cL L) (sL L) (tt t))]{fullShare} f := by rw [set_oK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
omit [FloatOps F] in
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
/-- The two transfer semaphores out of the tile's own. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The two scratch buffers out of the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task's four blocks before chunk `k`: the ones below `k` pooled, the others as launched. -/
def oDone (k : ℕ) : sProp 𝕄 :=
  bigSep Finset.univ fun t : Fin 4 => oLoc d ↦[blk (bno (cL L) (sL L) t)]{fullShare} (if t.val < k then G m d else m (oLoc d))

/-- The blocks other than `k`'s, before chunk `k` or after it. -/
def oRest (k : Fin 4) : sProp 𝕄 :=
  bigSep (Finset.univ.erase k) fun t : Fin 4 => oLoc d ↦[blk (bno (cL L) (sL L) t)]{fullShare} (if t.val < k.val then G m d else m (oLoc d))

/-- Chunk `k`'s block taken out, as launched. -/
theorem oDone_take (k : Fin 4) :
    oDone m d L k.val = iprop((oLoc d ↦[blk (bno (cL L) (sL L) k)]{fullShare} m (oLoc d)) ∗ oRest m d L k) := by
  unfold oDone oRest
  rw [SparseCore.bigSep_erase' (Finset.mem_univ k), if_neg (Nat.lt_irrefl _)]

/-- Chunk `k`'s block put back, pooled. -/
theorem oDone_put (k : Fin 4) :
    oDone m d L (k.val + 1) = iprop((oLoc d ↦[blk (bno (cL L) (sL L) k)]{fullShare} G m d) ∗ oRest m d L k) := by
  unfold oDone oRest
  rw [SparseCore.bigSep_erase' (Finset.mem_univ k), if_pos (Nat.lt_succ_self _)]
  refine congrArg (fun R : sProp 𝕄 => iprop((oLoc d ↦[blk (bno (cL L) (sL L) k)]{fullShare} G m d) ∗ R)) (bigSep_congr fun t ht => ?_)
  have hne : t.val ≠ k.val := fun e => (Finset.mem_erase.mp ht).1 (Fin.ext e)
  by_cases hlt : t.val < k.val
  · rw [if_pos hlt, if_pos (Nat.lt_succ_of_lt hlt)]
  · rw [if_neg hlt, if_neg (by omega)]

/-- Inside chunk's row loop, before row `k`: the chunk `f` as fetched, and the rows below `k` reduced. -/
def rowInv (f : Buf (Elt F) ((V d (cV L) (jV L)).loc cc0_scratch0)) (k : Nat) (_ : BitVec 32) : sProp 𝕄 :=
  iprop(((aV).view.loc (V d (cV L) (jV L)) ↦{fullShare} f)
    ∗ ∃ g : Buf (Elt F) ((V d (cV L) (jV L)).loc cc0_scratch1),
        ⌜∀ i : S128x16.Idx, (i 0).val < k → g i = pooled (n := 128) f i⌝ ∗ (bV).view.loc (V d (cV L) (jV L)) ↦{fullShare} g)

/-- Before chunk `k`: `x` under its share, the blocks of the chunks below `k` pooled and the others as launched, both
    scratch buffers at something, both transfer semaphores at zero, the tile's debts and the evidence its waits are
    allowed. -/
def chunkInv (O : CellTallies nD τ sig (HIx 1)) (W : Waits sig (HIx 1)) (k : Nat) (_ : BitVec 32) : sProp 𝕄 :=
  iprop(Transfers.MayWaits (V d (cV L) (jV L)) (default : HIx 1) O
    ∗ ((xV).view.loc (V d (cV L) (jV L)) ↦{xq (cL L) (sL L)} m (xLoc d))
    ∗ oDone m d L k
    ∗ (∃ f, (aV).view.loc (V d (cV L) (jV L)) ↦{fullShare} f)
    ∗ (∃ f, (bV).view.loc (V d (cV L) (jV L)) ↦{fullShare} f)
    ∗ semVal (cAcell d (cV L) (jV L)) 0 ∗ semVal (cBcell d (cV L) (jV L)) 0
    ∗ ∃ W', ⌜∀ p ∈ W', p ∈ W ∨ p.2 = none⌝ ∗ owes (V d (cV L) (jV L)) O W')

/-- A load of sixteen lanes of row `k` of the fetched chunk, `16 * n` columns in, reads those columns. -/
theorem load_at (f : S128x256.Idx → F .f32) (k : Fin 128) (n : ℕ) (hn : n < 16) {off : Fin 2 → ℕ} (h : off = ![k.val, 16 * n])
    (inb : ∀ a, off a + S1x16.size a ≤ S128x256.size a) (a : Fin 16) :
    (aV).view.readAt (Elt F) (Rect.unit (s := S128x256) off S1x16.size inb).toLoadRect f (ix2 (0 : Fin 1) a)
      = f (ix2 k ⟨(16 * n + a.val) % 256, Nat.mod_lt _ (by decide)⟩) := by
  subst h
  refine congrArg f (funext (Fin.forall_fin_two.mpr ⟨Fin.ext ?_, Fin.ext ?_⟩))
  · show k.val + 1 * 0 = k.val
    omega
  · show 16 * n + 1 * a.val = (16 * n + a.val) % 256
    have := a.isLt
    omega

/-- Storing the reduced row `k` over contents whose first `k` rows are reduced leaves the first `k + 1` reduced. -/
theorem row_kept (f : S128x256.Idx → F .f32) (g : S128x16.Idx → F .f32) (k : Fin 128) (w : S1x16.Idx → F .f32) {off : Fin 2 → ℕ}
    (h : off = ![k.val, 0]) (inb : ∀ a, off a + (![1, 16] : Fin 2 → ℕ) a ≤ S128x16.size a)
    (hg : ∀ i : S128x16.Idx, (i 0).val < k.val → g i = pooled (n := 128) f i) (hw : ∀ a : Fin 16, w (ix2 (0 : Fin 1) a) = pool f k a)
    (i : S128x16.Idx) (hi : (i 0).val < k.val + 1) :
    (bV).view.writes (Elt F) g [⟨Rect.unit off ![1, 16] inb, w⟩] i = pooled (n := 128) f i := by
  show (bV).view.read (Elt F) ((bV).view.writes (Elt F) g [⟨Rect.unit off ![1, 16] inb, w⟩]) i = _
  by_cases hk : (i 0).val < k.val
  · rw [View.read_writes_cons_rows_of_not_mem (d := ![128, 16]) (W := 1) _ _ _ _ _ i h rfl (Or.inl hk)]
    exact hg i hk
  · have hik : i 0 = k := Fin.ext (by omega)
    refine (View.read_writes_cons_rows_of_mem (Val := Elt F) (d := ![128, 16]) (size := ![1, 16]) (bV).view g inb w [] i (ix2 (0 : Fin 1) (i 1)) h
      (by rw [hik]; rfl) rfl).trans ?_
    refine Eq.trans (show w (ix2 (0 : Fin 1) (i 1)) = pool f k (i 1) from hw (i 1)) ?_
    show pool f k (i 1) = pool f (i 0) (i 1)
    rw [hik]

/-- The sixteen loads' running maximum is the row's reduction. -/
theorem row_value (f : S128x256.Idx → F .f32) (k : Fin 128) (l : Fin 16 → S1x16.Idx → F .f32)
    (hl : ∀ (n a : Fin 16), l n (ix2 (0 : Fin 1) a) = f (ix2 k ⟨(16 * n.val + a.val) % 256, Nat.mod_lt _ (by decide)⟩)) (a : Fin 16) :
    k0_pay1 (k0_pay2 (l 0) (l 1) (l 2) (l 3) (l 4) (l 5) (l 6) (l 7) (l 8) (l 9) (l 10) (l 11)) (l 12) (l 13) (l 14) (l 15)
        (ix2 (0 : Fin 1) a)
      = pool f k a := by
  have hs (n : Fin 16) : (shapeCast S16 (l n) shapeCasts_S1x16_S16 : S16.Idx → F .f32) (ix1 a)
      = f (ix2 k ⟨(16 * n.val + a.val) % 256, Nat.mod_lt _ (by decide)⟩) := (shapeCast_1a_a_apply _ _ a).trans (hl n a)
  unfold k0_pay1 k0_pay2
  refine (shapeCast_a_1a_apply _ _ (0 : Fin 1) a).trans ?_
  simp only [maximumf, hs]
  rfl

set_option maxHeartbeats 4000000 in
/-- One row: sixteen loads of the fetched chunk's row, their running maximum, one store of the reduced row. -/
theorem row_trip (f : Buf (Elt F) ((V d (cV L) (jV L)).loc cc0_scratch0)) (k : Fin k0_t2_loop.trips) (acc : BitVec 32) :
    rowInv d L f k.val acc
      ⊢ wp frame (wpE (defs₀ (F := F)) 𝒱₀ (V d (cV L) (jV L)) none) Set.univ
          (k0_t2_body L xV (Memref.isWhole_whole _) oV (Memref.isWhole_whole _) aV (Memref.isWhole_whole _) bV (Memref.isWhole_whole _)
            cc0_scoped0 cc0_scoped1 k acc)
          fun y => rowInv d L f (k.val + 1) y := by
  unfold k0_t2_body
  simp only [k0_part1_eq_skeleton]
  unfold k0_part1_skel rowInv
  iintro ⟨Ha, %g, %hg, Hb⟩
  sl_exec
  sl_step
  isplitl [Ha]
  · iexact Ha
  iexists _
  isplitr
  rotate_left
  · iexact Hb
  ipureintro
  refine row_kept f g k _ (k0_off18_eq k) _ hg fun a => ?_
  refine row_value f k ![_, _, _, _, _, _, _, _, _, _, _, _, _, _, _, _] (fun n a => ?_) a
  fin_cases n
  · exact load_at f k 0 (by decide) (k0_off2_eq k) _ a
  · exact load_at f k 1 (by decide) (k0_off3_eq k) _ a
  · exact load_at f k 2 (by decide) (k0_off4_eq k) _ a
  · exact load_at f k 3 (by decide) (k0_off5_eq k) _ a
  · exact load_at f k 4 (by decide) (k0_off6_eq k) _ a
  · exact load_at f k 5 (by decide) (k0_off7_eq k) _ a
  · exact load_at f k 6 (by decide) (k0_off8_eq k) _ a
  · exact load_at f k 7 (by decide) (k0_off9_eq k) _ a
  · exact load_at f k 8 (by decide) (k0_off10_eq k) _ a
  · exact load_at f k 9 (by decide) (k0_off11_eq k) _ a
  · exact load_at f k 10 (by decide) (k0_off12_eq k) _ a
  · exact load_at f k 11 (by decide) (k0_off13_eq k) _ a
  · exact load_at f k 12 (by decide) (k0_off14_eq k) _ a
  · exact load_at f k 13 (by decide) (k0_off15_eq k) _ a
  · exact load_at f k 14 (by decide) (k0_off16_eq k) _ a
  · exact load_at f k 15 (by decide) (k0_off17_eq k) _ a

/-- The chunk's own rows of `x`. -/
def chunk (k : Fin k0_t1_loop.trips) : S128x256.Idx → F .f32 := (xK L k).view.read (Elt F) (m (xLoc d))

/-- A reduced row is that row's alone: rows that agree column by column reduce to the same lanes. -/
theorem pool_congr {n n' : ℕ} (x : (⟨2, ![n, 256]⟩ : Shape).Idx → F .f32) (y : (⟨2, ![n', 256]⟩ : Shape).Idx → F .f32) (r : Fin n)
    (r' : Fin n') (a : Fin 16) (h : ∀ c : Fin 256, x (ix2 r c) = y (ix2 r' c)) : pool x r a = pool y r' a :=
  congrArg (fun g : ℕ → F .f32 => runMax g 15) (funext fun _ => h _)

/-- A row of the chunk is a row of `x`: the one that lands on the same row of the result. -/
theorem chunk_at (k : Fin k0_t1_loop.trips) (y : S128x16.Idx) (c : Fin 256) :
    chunk m d L k (ix2 (y 0) c) = m (xLoc d) (ix2 ((oK L k).view.emb y 0) c) := by
  refine congrArg (m (xLoc d)) (funext (Fin.forall_fin_two.mpr ⟨Fin.ext ?_, Fin.ext ?_⟩))
  · show k0_off1 L k 0 + 1 * (y 0).val = k0_off19 L k 0 + 1 * (y 0).val
    rw [k0_off1_eq, k0_off19_eq]
  · show k0_off1 L k 1 + 1 * c.val = c.val
    rw [k0_off1_eq]
    show 0 + 1 * c.val = c.val
    omega

/-- The block the tile writes out, from a scratch holding its chunk reduced, is the pooled array's. -/
theorem sent (k : Fin k0_t1_loop.trips) (f : Buf (Elt F) (oLoc d)) (g w : S128x16.Idx → F .f32) (hw : w = g)
    (hg : ∀ i : S128x16.Idx, (i 0).val < Scf.trips k0_t2_loop.lb k0_t2_loop.ub k0_t2_loop.st → g i = pooled (n := 128) (chunk m d L k) i) :
    ((oK L k).view.loc (V d (cV L) (jV L)) ↦[(oK L k).view.set]{fullShare}
        (oK L k).view.writes (Elt F) f [⟨Rect.whole S128x16, w⟩] : sProp 𝕄)
      = oLoc d ↦[blk (bno (cL L) (sL L) (tt k))]{fullShare} G m d := by
  rw [← pts_oK (F := F) d L k]
  refine pointsTo_congr fun i hi => ?_
  obtain ⟨y, -, rfl⟩ := Finset.mem_map.mp hi
  refine (View.read_writes_cons_hit (oK L k).view f (Rect.whole S128x16) w [] y y (Rect.emb_whole_apply S128x16 y)).trans ?_
  rw [hw]
  refine (hg y (by
    rw [show Scf.trips k0_t2_loop.lb k0_t2_loop.ub k0_t2_loop.st = 128 by decide]
    exact idx2_lt0 y)).trans ?_
  show pool (chunk m d L k) (y 0) (y 1) = pool (n := 16384) (m (xLoc d)) ((oK L k).view.emb y 0) ((oK L k).view.emb y 1)
  rw [show (oK L k).view.emb y 1 = y 1 from Fin.ext (by
    show k0_off19 L k 1 + 1 * (y 1).val = (y 1).val
    rw [k0_off19_eq]
    show 0 + 1 * (y 1).val = (y 1).val
    omega)]
  exact pool_congr _ _ _ _ _ fun c => chunk_at m d L k y c

/-- What the fetch leaves in the scratch is the chunk's own rows. -/
theorem landed (k : Fin k0_t1_loop.trips) (f : Buf (Elt F) ((V d (cV L) (jV L)).loc cc0_scratch0))
    (w : S128x256.Idx → F .f32) (hw : w = chunk m d L k) :
    ((aV).view.loc (V d (cV L) (jV L)) ↦{fullShare}
        View.write (Elt F) (Memref.whole cc0_scratch0).view f w Finset.univ : sProp 𝕄)
      = ((aV).view.loc (V d (cV L) (jV L)) ↦{fullShare} chunk m d L k) :=
  congrArg (fun f' => ((aV).view.loc (V d (cV L) (jV L)) ↦{fullShare} f' : sProp 𝕄)) ((View.write_whole_univ _ _ _).trans hw)

theorem oDone_zero : (oPts d (cL L) (sL L) (m (oLoc d)) : sProp 𝕄) = oDone m d L 0 := by
  unfold oDone oPts
  exact bigSep_congr fun t _ => by rw [if_neg (Nat.not_lt_zero _)]

theorem oDone_all : (oDone m d L (Scf.trips k0_t1_loop.lb k0_t1_loop.ub k0_t1_loop.st) : sProp 𝕄) = oPts d (cL L) (sL L) (G m d) := by
  rw [show Scf.trips k0_t1_loop.lb k0_t1_loop.ub k0_t1_loop.st = 4 by decide]
  unfold oDone oPts
  exact bigSep_congr fun t _ => by rw [if_pos t.isLt]

set_option maxHeartbeats 4000000 in
/-- The task on tile `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xPts m d (cL L) (sL L) ∗ oPts d (cL L) (sL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_sc L xV (Memref.isWhole_whole _) oV (Memref.isWhole_whole _) aV (Memref.isWhole_whole _) bV (Memref.isWhole_whole _)
            cc0_scoped0 cc0_scoped1)
          fun _ => iprop((xPts m d (cL L) (sL L) ∗ oPts d (cL L) (sL L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__pool_sc_eq_skeleton]; unfold cc0__pool_sc_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, Hbufs⟩, ⟨HsA, HsB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Ha' := (Entails.of_eq (pts_aV (F := F) d L _).symm) $$ Ha
  ihave Hb' := (Entails.of_eq (pts_bV (F := F) d L _).symm) $$ Hb
  sl_for (chunkInv m d L O W) $$ [Hmw Hx' Ho Ha' Hb' HsA HsB HO]
  case region =>
    intro k _
    unfold chunkInv
    iintro ⟨Hmw, Hx, Ho, ⟨%fa, Ha⟩, ⟨%fb, Hb⟩, HsA, HsB, %W', %hW', HO⟩
    ihave Ho' := (Entails.of_eq (oDone_take (F := F) m d L (tt k))) $$ Ho
    icases Ho' with ⟨Hk, Hrest⟩
    ihave Hk' := (Entails.of_eq (pts_oK (F := F) d L k _).symm) $$ Hk
    sl_exec (disch := exact View.amount_pos _ _ (show 0 < S128x256.numel by decide))
    ihave Ha' := (Entails.of_eq (landed (F := F) m d L k fa (tile_body.sl.dma0 m d L k) rfl)) $$ Ha
    sl_for (rowInv d L (chunk m d L k)) $$ [Ha' Hb]
    case region =>
      intro r acc
      exact row_trip d L (chunk m d L k) r acc
    · unfold rowInv
      isplitl [Ha']
      · iexact Ha'
      iexists fb
      isplitr
      rotate_left
      · iexact Hb
      ipureintro
      intro i hi
      exact absurd hi (Nat.not_lt_zero _)
    iintro %_ HI
    unfold rowInv
    icases HI with ⟨Ha, %g, %hg, Hb⟩
    sl_exec (disch := exact View.amount_pos _ _ (show 0 < S128x16.numel by decide))
    sl_step
    ihave Hk := (Entails.of_eq (sent (F := F) m d L k (m (oLoc d)) g (tile_body.sl.dma0_1 d L g) rfl hg)) $$ Hk'
    ihave Ho := (Entails.of_eq (oDone_put (F := F) m d L (tt k)).symm) $$ [Hk Hrest]
    · isplitl [Hk]
      · iexact Hk
      · iexact Hrest
    isplitl [Hmw]
    · iexact Hmw
    isplitl [Hx]
    · iexact Hx
    isplitl [Ho]
    · iexact Ho
    isplitl [Ha]
    · iexists _; iexact Ha
    isplitl [Hb]
    · iexists _; iexact Hb
    isplitl [HsA]
    · iexact HsA
    isplitl [HsB]
    · iexact HsB
    iexists _
    isplitr
    rotate_left
    · iexact HO
    ipureintro
    intro p hp
    rcases Finset.mem_insert.mp hp with h | hp
    · exact Or.inr (h ▸ rfl)
    rcases Finset.mem_insert.mp hp with h | hp
    · exact Or.inr (h ▸ rfl)
    · exact hW' p hp
  · unfold chunkInv
    isplitl [Hmw]
    · iexact Hmw
    isplitl [Hx']
    · iexact Hx'
    isplitl [Ho]
    · iapply (Entails.of_eq (oDone_zero (F := F) m d L)) $$ Ho
    isplitl [Ha']
    · iexists fa; iexact Ha'
    isplitl [Hb']
    · iexists fb; iexact Hb'
    isplitl [HsA]
    · iexact HsA
    isplitl [HsB]
    · iexact HsB
    iexists W
    isplitr
    · ipureintro; exact fun p hp => Or.inl hp
    · iexact HO
  iintro %_ HI
  unfold chunkInv
  icases HI with ⟨-, Hx, Ho, ⟨%fa', Ha⟩, ⟨%fb', Hb⟩, HsA, HsB, %W', %hW', HO⟩
  sl_step
  ihave Ho' := (Entails.of_eq (oDone_all (F := F) m d L)) $$ Ho
  ihave Hx' := (Entails.of_eq (pts_xV (F := F) d L _ _)) $$ Hx
  isplitl [Hx' Ho']
  · isplitl [Hx']
    · iexact Hx'
    · iexact Ho'
  isplitl [Ha Hb Hbufs]
  · isplitl [Ha]
    · iexists fa'; iapply (Entails.of_eq (pts_aV (F := F) d L fa')) $$ Ha
    isplitl [Hb]
    · iexists fb'; iapply (Entails.of_eq (pts_bV (F := F) d L fb')) $$ Hb
    iexact Hbufs
  isplitl [HsA HsB Hsems]
  · isplitl [HsA]
    · iexact HsA
    isplitl [HsB]
    · iexact HsB
    iexact Hsems
  iexists W'
  isplitr
  · ipureintro; exact hW'
  iexact HO

/-- The grid coordinates of the task on tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The launch's label runs the kernel's body on each tile of the grid, over the whole arrays and scratch buffers. -/
theorem defs₀_vector (c : Fin τ.nSC) (s : Fin τ.nSub) :
    defs₀ (F := F) (.scVector c s) 0 ()
      = SparseCore.onTile hcore0 hsub0 (fun c s => cc0__pool_sc (coordsV c s) xV (Memref.isWhole_whole _) oV (Memref.isWhole_whole _)
          aV (Memref.isWhole_whole _) bV (Memref.isWhole_whole _) cc0_scoped0 cc0_scoped1) ⟨⟩ c s := rfl

omit [FloatOps F] in
/-- Waits met outside every launch are among those a task of launch `q` may leave. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

set_option maxRecDepth 16384 in
/-- Every tile's task meets the launch's terms. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m d (coordsV ⟨_, hci.1⟩ ⟨_, hci.2⟩) hF O W hO).trans (wp_mono frame _ _ fun _ => weaken_waits)

end Tile

/-! ## The arrays among the tasks -/

omit [FloatOps F] in
/-- `x` whole is the thirty-two tasks' shares of it: two SparseCores, sixteen tasks each. -/
theorem x_shares (d : Dev nD) : (xLoc d ↦{fullShare} m (xLoc d) : sProp 𝕄)
    = bigSep Finset.univ fun c : Fin 2 => bigSep Finset.univ fun s : Fin 16 => xPts m d c s :=
  (ShareLeaves.pointsTo_leaves Finset.univ (m (xLoc d)) 1 fullShare).trans
    (bigSep_congr fun c _ => ShareLeaves.pointsTo_leaves Finset.univ (m (xLoc d)) 4 (ShareLeaves.leaf 1 fullShare c))

/-- The tasks' blocks are apart. -/
theorem blk_apart : ∀ p ∈ (Finset.univ : Finset (Fin 2 × Fin 16 × Fin 4)), ∀ p' ∈ (Finset.univ : Finset (Fin 2 × Fin 16 × Fin 4)), p ≠ p' →
    Disjoint (blk (bno p.1 p.2.1 p.2.2)) (blk (bno p'.1 p'.2.1 p'.2.2)) := by
  rintro ⟨c, s, t⟩ - ⟨c', s', t'⟩ - hne
  refine Finset.disjoint_left.mpr fun i h h' => hne ?_
  have h1 : (i 0).val / 128 = 8 * s.val + 4 * c.val + t.val := (Finset.mem_filter.mp h).2
  have h2 : (i 0).val / 128 = 8 * s'.val + 4 * c'.val + t'.val := (Finset.mem_filter.mp h').2
  have ec : c = c' := Fin.ext (by omega)
  have es : s = s' := Fin.ext (by omega)
  have et : t = t' := Fin.ext (by omega)
  rw [ec, es, et]

/-- The tasks' blocks are the whole result. -/
theorem blk_all : (Finset.univ : Finset (Fin 2 × Fin 16 × Fin 4)).biUnion (fun p => blk (bno p.1 p.2.1 p.2.2)) = Finset.univ := by
  refine Finset.eq_univ_of_forall fun i => ?_
  have h := idx2_lt0 i
  refine Finset.mem_biUnion.mpr ⟨(⟨(i 0).val / 128 / 4 % 2, by omega⟩, ⟨(i 0).val / 128 / 8, by omega⟩, ⟨(i 0).val / 128 % 4, by omega⟩),
    Finset.mem_univ _, Finset.mem_filter.mpr ⟨Finset.mem_univ _, ?_⟩⟩
  show (i 0).val / 128 = 8 * ((i 0).val / 128 / 8) + 4 * ((i 0).val / 128 / 4 % 2) + (i 0).val / 128 % 4
  omega

omit [FloatOps F] in
/-- The result whole is the tasks' blocks of it. -/
theorem o_blocks (d : Dev nD) (f : Buf (Elt F) (oLoc d)) : (oLoc d ↦{fullShare} f : sProp 𝕄)
    = bigSep Finset.univ fun c : Fin 2 => bigSep Finset.univ fun s : Fin 16 => oPts d c s f := by
  have h : (oLoc d ↦{fullShare} f : sProp 𝕄) = bigSep Finset.univ fun p : Fin 2 × Fin 16 × Fin 4 => oLoc d ↦[blk (bno p.1 p.2.1 p.2.2)]{fullShare} f := by
    rw [← pointsTo_biUnion Finset.univ (ℓ := oLoc d) (fun p : Fin 2 × Fin 16 × Fin 4 => blk (bno p.1 p.2.1 p.2.2)) blk_apart, blk_all]
  refine h.trans ?_
  rw [BI.bigSep_univ_prod]
  exact bigSep_congr fun c _ => BI.bigSep_univ_prod _

/-- What the SparseCores are handed together is both arrays whole, -/
theorem handed (d : Dev nD) (f : Buf (Elt F) (oLoc d)) :
    (bigSep Finset.univ fun c : Fin 2 => bigSep Finset.univ fun s : Fin 16 => iprop(xPts m d c s ∗ oPts d c s f) : sProp 𝕄)
      = iprop((xLoc d ↦{fullShare} m (xLoc d)) ∗ oLoc d ↦{fullShare} f) := by
  rw [x_shares, o_blocks, ← bigSep_sep']
  exact bigSep_congr fun c _ => bigSep_sep' _ _ _

/-- before the launch -/
theorem st0_eq (d : Dev nD) : (bigSep Finset.univ fun c : Fin ((K (F := F)).nCore 0) => (P m).st 0 d c)
    = iprop((xLoc d ↦{fullShare} m (xLoc d)) ∗ oLoc d ↦{fullShare} m (oLoc d)) := handed m d (m (oLoc d))

/-- and after it. -/
theorem dn0_eq (d : Dev nD) : (bigSep Finset.univ fun c : Fin ((K (F := F)).nCore 0) => (P m).dn 0 d c)
    = iprop((xLoc d ↦{fullShare} m (xLoc d)) ∗ oLoc d ↦{fullShare} G m d) := handed m d (G m d)

/-- A SparseCore's part is its sixteen tasks' parts, handed out as they are and gathered as they come back. -/
theorem vecSplit : (K (F := F)).VecSplit' (P m) 0 := by
  intro d c
  show (bigSep Finset.univ fun s : Fin 16 => iprop(xPts m d (Fin.cast nCore_zero c) s ∗ oPts d (Fin.cast nCore_zero c) s (m (oLoc d)))) ⊢ |={Set.univ}=> iprop(
      (bigSep Finset.univ fun s : Fin 16 => iprop(xPts m d (Fin.cast nCore_zero c) s ∗ oPts d (Fin.cast nCore_zero c) s (m (oLoc d))))
      ∗ ((bigSep Finset.univ fun s : Fin 16 => iprop(xPts m d (Fin.cast nCore_zero c) s ∗ oPts d (Fin.cast nCore_zero c) s (G m d)))
          -∗ (bigSep Finset.univ fun s : Fin 16 => iprop(xPts m d (Fin.cast nCore_zero c) s ∗ oPts d (Fin.cast nCore_zero c) s (G m d)))))
  iintro H
  imodintro
  isplitl [H]
  · iexact H
  iintro H
  iexact H

/-! ## The launch's ghost state and the TensorCore's side -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show ∀ (I : Type) (s : Finset I), (bigSep s fun _ => iprop(emp)) = (iprop(emp) : sProp 𝕄) from fun _ s => bigSep_emp_const s,
    show ∀ (I : Type) (s : Finset I), (bigSep s fun _ => iprop(emp)) = (iprop(emp) : sProp 𝕄) from fun _ s => bigSep_emp_const s]
  iintro Hu
  ihave H := (ownU_pair (initOf (K (F := F)).hsCells (K (F := F)).hsToks) (1 : Counters)) $$ Hu
  icases H with ⟨HH, -⟩
  imodintro
  isplitl [HH]
  · iexact HH
  isplitr <;> iempintro

omit [FloatOps F] in
/-- The TensorCore's own arrays are `x` and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What `@main` ends with: `x` as it came and the pooled array. -/
abbrev FIN (d : Dev nD) : sProp 𝕄 := iprop((xLoc d ↦{fullShare} m (xLoc d)) ∗ oLoc d ↦{fullShare} G m d)

/-- `@main` is the one launch, from both arrays whole to both arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr
  · iexact Hctx
  isplitl [Hst]
  · iexact Hst
  isplitl [Harr]
  · rw [st0_eq]
    iexact Harr
  iintro ⟨Hst, Hdn⟩
  ihave Hdn' := (Entails.of_eq (dn0_eq m d)) $$ Hdn
  imodintro
  isplitl [Hst]
  · iexact Hst
  isplitl [Hdn']
  · iexact Hdn'
  isplitl [Hb] <;> iassumption

/-- What the final memory of device `d` then holds. -/
def fq (d : Dev nD) (s' : Phys nD τ sig (Elt F)) : Prop := s'.mem.mem (xLoc d) = m (xLoc d) ∧ s'.mem.mem (oLoc d) = G m d

set_option maxRecDepth 16384 in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := G m d)) $$ [HSI Ho]
  · isplitl [HSI] <;> iassumption
  icases H with %h2
  ipureintro
  exact ⟨funext fun i => h1 i (Finset.mem_univ i), funext fun i => h2 i (Finset.mem_univ i)⟩

/-! ## The run -/

/-- Every run ends with `x` unchanged, the result pooled, and every semaphore at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem (xLoc d) = m (xLoc d) ∧ r.2.mem (oLoc d) = G m d) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.PoolIdeal

end
-- ==== Proof.RefValue.lean ====
/-
  The reference's result, read at an index. For each of the sixteen residue classes it gathers the class's sixteen columns,
  takes each row's maximum of them from −∞, and lays the sixteen maxima side by side: at `(r, a)` that is row `r`'s running
  maximum over the columns congruent to `a`, the kernel's value (`PoolIdeal.pooled`).
-/
module

public import proofs.«01_k».proof.Defs
public import proofs.«01_k».proof.Proof.Gen.ReferenceIdeal.Run
public import proofs.«01_k».proof.Proof.PoolIdeal
public import Idealize.ShloMosaic.Lib.ValueIdxCore
public import Idealize.ShloMosaic.Lib.IdealHost
public import Idealize.ShloMosaic.Lib.Pipeline.Value
public import Idealize.ShloMosaic.PureOps.Reduce
public import Idealize.ShloMosaic.PureOps.Ideal.Laws

@[expose] public section

noncomputable section

namespace Cert.Proof.RefValue

open Cert.ReferenceIdeal Cert.ReferenceIdeal.Gen Cert.ReferenceIdeal.Value
open Cert.Proof.PoolIdeal (runMax pool pooled)
open Idealize.ShloMosaic Idealize.ShloMosaic.ValueIdx Idealize.ShloMosaic.TcCoe Idealize.ShloMosaic.StableHlo

/-! ## A maximum from −∞ over a finite run of terms -/

/-- Folding the maximum over `g 0, …, g n` from `b` is `b` against their running maximum. -/
theorem fold_runMax (b : Ideal .f32) (g : ℕ → Ideal .f32) : ∀ n : ℕ,
    (Finset.univ : Finset (Fin (n + 1))).fold FloatOps.maximumf b (fun k => g k.val) = FloatOps.maximumf b (runMax g n)
  | 0 => by
    show (Finset.univ : Finset (Fin 1)).fold FloatOps.maximumf b (fun k => g k.val) = max b (g 0)
    rw [Finset.univ_unique, Finset.fold_singleton]
    exact max_comm (g 0) b
  | n + 1 => by
    rw [Fin.univ_castSuccEmb, Finset.fold_cons, Finset.fold_map]
    refine (congrArg (FloatOps.maximumf (g (n + 1))) (fold_runMax b g n)).trans ?_
    show max (g (n + 1)) (max b (runMax g n)) = max b (max (runMax g n) (g (n + 1)))
    rw [max_comm, max_assoc]

/-- The maximum against −∞ changes nothing. -/
theorem neg_infty_max (y : Ideal .f32) : FloatOps.maximumf (FloatOps.ofBits (F := Ideal) .f32 0xFF800000#32) y = y := by
  show max (Ideal.ofBits .f32 0xFF800000#32) y = y
  simp [Ideal.ofBits, Ideal.ieee]

/-- A row's maximum from −∞ over sixteen columns is their running maximum. -/
theorem row_max (x : FVec Ideal S16384x16 .f32) (r : Fin 16384) (g : ℕ → Ideal .f32) (hg : ∀ k : Fin 16, x (ix2 r k) = g k.val) :
    Host.reduce FloatOps.maximumf x (constant S_ .f32 0xFF800000#32) reducesTo_S16384x16_S16384_d1 h_S_ (ix1 r) = runMax g 15 := by
  have hr : S16384x16.Reduces [1] S16384 := by decide
  rw [Host.reduce_eq_fold_single FloatOps.maximumf x _ _ hr]
  refine Eq.trans ?_ ((fold_runMax _ g 15).trans (neg_infty_max _))
  refine congrArg (fun f => Finset.fold FloatOps.maximumf (FloatOps.ofBits (F := Ideal) .f32 0xFF800000#32) f (Finset.univ : Finset (Fin 16))) ?_
  funext k
  refine Eq.trans (congrArg x ?_) (hg k)
  funext c
  apply Fin.ext
  fin_cases c <;> rfl

/-! ## The gather of columns -/

/-- A gather of whole columns read at `(r, k)`: row `r` of the column the `k`-th start index names, signed and clamped. -/
theorem gather_cols (x : S16384x256.Idx → Ideal .f32) (idx : IVec S16x1 32) (r : Fin 16384) (k : Fin 16) :
    Host.gather gather_S16384x256_S16x1_S16384x16_0_1_n_n_1_1_163841 x idx (ix2 r k)
      = x (ix2 r ⟨min (idx (ix2 k (0 : Fin 1))).toInt.toNat 255, by omega⟩) := by
  refine congrArg x (funext (Fin.forall_fin_two.mpr ⟨Fin.ext ?_, Fin.ext ?_⟩))
  · show GatherDims.start _ _ idx 0 + GatherDims.batchCoord _ _ 0 + GatherDims.offCoord _ _ 0 = r.val
    rw [GatherDims.batchCoord_eq_zero _ _ _ List.not_mem_nil]
    unfold GatherDims.start
    rw [dif_neg (show (0 : Fin 2) ∉ gather_S16384x256_S16x1_S16384x16_0_1_n_n_1_1_163841.startIndexMap by decide)]
    simp only [Nat.zero_add, Nat.add_zero]
    unfold GatherDims.offCoord
    rw [dif_pos (show (0 : Fin 2) ∈ gather_S16384x256_S16x1_S16384x16_0_1_n_n_1_1_163841.sKept by decide)]
    rfl
  · show GatherDims.start _ _ idx 1 + GatherDims.batchCoord _ _ 1 + GatherDims.offCoord _ _ 1 = min (idx (ix2 k (0 : Fin 1))).toInt.toNat 255
    rw [GatherDims.batchCoord_eq_zero _ _ _ List.not_mem_nil,
      GatherDims.offCoord_eq_zero _ _ _ (show (1 : Fin 2) ∉ gather_S16384x256_S16x1_S16384x16_0_1_n_n_1_1_163841.sKept by decide)]
    simp only [Nat.add_zero]
    unfold GatherDims.start
    rw [dif_pos (show (1 : Fin 2) ∈ gather_S16384x256_S16x1_S16384x16_0_1_n_n_1_1_163841.startIndexMap by decide)]
    refine congrArg (fun j => min (idx j).toInt.toNat 255) (funext (Fin.forall_fin_two.mpr ⟨Fin.ext ?_, Fin.ext ?_⟩)) <;> rfl

/-! ## One residue class -/

/-- A column number is not negative, so the reference's wrap of negative indices leaves it, and it lies below 256. -/
theorem col_word : ∀ n : Fin 256,
    min (Scalar.select (IntOp.cmpi .slt (BitVec.ofNat 32 n.val) 0#32) (IntOp.addi (BitVec.ofNat 32 n.val) 256#32) (BitVec.ofNat 32 n.val)).toInt.toNat 255
      = n.val := by decide

/-- The reference's maximum of the columns that `c` lists. -/
def classMax (x : FVec Ideal S16384x256 .f32) (c : IVec S16 32) : FVec Ideal S16384 .f32 :=
  Host.reduce FloatOps.maximumf (Host.gather gather_S16384x256_S16x1_S16384x16_0_1_n_n_1_1_163841 x
      (broadcastInDim S16x1 ![0] bcast_S16_S16x1_0 (select (cmpi .slt c (broadcastInDim S16 ![] bcast_S_S16 (constantI S_ 32 0#32)))
        (addi c (broadcastInDim S16 ![] bcast_S_S16 (constantI S_ 32 256#32))) c)))
    (constant S_ .f32 0xFF800000#32) reducesTo_S16384x16_S16384_d1 h_S_

/-- Where `c` lists the columns congruent to `a`, that maximum is the row's running maximum over them. -/
theorem classMax_eq (x : FVec Ideal S16384x256 .f32) (c : IVec S16 32) (a : Fin 16)
    (hc : ∀ k : Fin 16, c (ix1 k) = BitVec.ofNat 32 ((16 * k.val + a.val) % 256)) (r : Fin 16384) :
    classMax x c (ix1 r) = pool (n := 16384) x r a := by
  refine row_max _ r (fun k => x (ix2 r ⟨(16 * k + a.val) % 256, Nat.mod_lt _ (by decide)⟩)) fun k => ?_
  refine (gather_cols x _ r k).trans (congrArg (fun j : Fin 256 => x (ix2 r j)) (Fin.ext ?_))
  show min (BitVec.toInt (broadcastInDim (s := S16) S16x1 ![0] bcast_S16_S16x1_0 _ (ix2 k (0 : Fin 1)))).toNat 255 = (16 * k.val + a.val) % 256
  rw [broadcastInDim_apply _ _ _ _ (ix1 k) (by intro b; fin_cases b; rfl)]
  show min (Scalar.select (IntOp.cmpi .slt (c (ix1 k)) (broadcastInDim S16 ![] bcast_S_S16 (constantI S_ 32 0#32) (ix1 k)))
    (IntOp.addi (c (ix1 k)) (broadcastInDim S16 ![] bcast_S_S16 (constantI S_ 32 256#32) (ix1 k))) (c (ix1 k))).toInt.toNat 255 = _
  rw [broadcastInDim_scalar_apply, broadcastInDim_scalar_apply, hc k]
  exact col_word ⟨(16 * k.val + a.val) % 256, Nat.mod_lt _ (by decide)⟩

/-! ## The classes side by side -/

/-- A class's maxima as the result's column, read at row `r`. -/
theorem column_at (x : FVec Ideal S16384x256 .f32) (lit : Fin 16 → BitVec 32) (a : Fin 16)
    (hc : ∀ k : Fin 16, lit k = BitVec.ofNat 32 ((16 * k.val + a.val) % 256)) (r : Fin 16384) :
    broadcastInDim S16384x1 ![0] bcast_S16384_S16384x1_0 (classMax x fun i => lit (S16.rowMajor i)) (ix2 r (0 : Fin 1))
      = pool (n := 16384) x r a := by
  rw [broadcastInDim_apply _ _ _ _ (ix1 r) (by intro b; fin_cases b; rfl)]
  refine classMax_eq x _ a (fun k => ?_) r
  rw [show S16.rowMajor (ix1 k) = k from Fin.ext (Shape.rowMajor_val_one _)]
  exact hc k

/-- The sixteen lists of column numbers, class by class. -/
def lists : Fin 16 → Fin 16 → BitVec 32 :=
  ![lit0, lit1, lit2, lit3, lit4, lit5, lit6, lit7, lit8, lit9, lit10, lit11, lit12, lit13, lit14, lit15]

/-- Class `a`'s list names the columns congruent to `a`. -/
theorem lists_eq : ∀ a k : Fin 16, lists a k = BitVec.ofNat 32 ((16 * k.val + a.val) % 256) := by decide

/-- Class `a`'s maxima, as a column of the result. -/
def column (x : FVec Ideal S16384x256 .f32) (a : Fin 16) : FVec Ideal S16384x1 .f32 :=
  broadcastInDim S16384x1 ![0] bcast_S16384_S16384x1_0 (classMax x fun i => lists a (S16.rowMajor i))

/-- Sixteen columns side by side, read at `(r, a)`: column `a` at row `r`. -/
theorem columns_at (f : Fin 16 → FVec Ideal S16384x1 .f32)
    (h : Shape.Concatenates ((List.ofFn fun n : Fin 16 => (⟨S16384x1, f n⟩ : (s : Shape) × (s.Idx → Ideal .f32))).map (·.1)) S16384x16 1)
    (r : Fin 16384) (a : Fin 16) :
    concatenate S16384x16 1 (List.ofFn fun n : Fin 16 => ⟨S16384x1, f n⟩) h (ix2 r a) = f a (ix2 r (0 : Fin 1)) := by
  refine concatenate_ofFn_unit_apply 1 f h rfl rfl (ix2 r a) a rfl (ix2 r (0 : Fin 1)) fun b hb => ?_
  fin_cases b
  · rfl
  · exact absurd rfl hb

/-- The reference's result is the pooled array. -/
theorem res_eq (V0 : Valuation τ sig (Elt Ideal)) : res_main_v144 V0 = pooled (F := Ideal) (n := 16384) (V0 (Proc.devRef .tc main_arg0)) := by
  funext i
  obtain ⟨r, a, rfl⟩ : ∃ (r : Fin 16384) (a : Fin 16), i = ix2 r a := ⟨i 0, i 1, eq_ix2 i⟩
  have hcat : res_main_v144 V0 = concatenate S16384x16 1
      (List.ofFn fun n : Fin 16 => (⟨S16384x1, column (V0 (Proc.devRef .tc main_arg0)) n⟩ : (s : Shape) × (s.Idx → Ideal .f32)))
      concatenates_S16384x1_S16384x1_S16384x1_S16384x1_S16384x1_S16384x1_S16384x1_S16384x1_S16384x1_S16384x1_S16384x1_S16384x1_S16384x1_S16384x1_S16384x1_S16384x1_S16384x16_d1 := rfl
  exact (congrFun hcat _).trans ((columns_at _ _ r a).trans (column_at _ (lists a) a (lists_eq a) r))

end Cert.Proof.RefValue

end
-- ==== Proof.lean ====
/-
  The pooling certificate: the claims from the runs. The kernel's run is proved once for any float instance, over the program
  as printed (Proof/PoolBits.lean, read here at `Bits`) and over its idealization (Proof/PoolIdeal.lean, at `Ideal`): every
  run ends with `x` unchanged, the result at each row's running maxima over the sixteen residue classes of the columns, and
  every semaphore at zero. The reference's result is that same array (Proof/RefValue.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.PoolBits
public import proofs.«01_k».proof.Proof.RefValue

@[expose] public section

noncomputable section

namespace Cert.Proof

open Idealize.ShloMosaic Idealize.SL.Sem

/-- The printed kernel runs, leaves `x` as it was and every semaphore at zero. -/
theorem quiescent_kernel : Cert.quiescent_Kernel (hKernel := Cert.Kernel.Gen.facts) := fun m ρ _ =>
  (θ_run _ _ _).mono (fun _ h => ⟨fun c => (h.1 c).1, h.2⟩) (PoolBits.run_main (F := Bits) m ρ)

/-- The idealized kernel runs, leaves `x` as it was and every semaphore at zero. -/
theorem quiescent_kernelIdeal : Cert.quiescent_KernelIdeal (hKernelIdeal := Cert.KernelIdeal.Gen.facts) := fun m ρ _ =>
  (θ_run _ _ _).mono (fun _ h => ⟨fun c => (h.1 c).1, h.2⟩) (PoolIdeal.run_main (F := Ideal) m ρ)

/-- The reference runs and leaves `x` as it was; it has no semaphores. -/
theorem quiescent_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the reference end with the same result, the pooled array of their common argument. -/
theorem same_result : Cert.algebraic_KernelIdeal_ReferenceIdeal (hKernelIdeal := Cert.KernelIdeal.Gen.facts)
    (hReferenceIdeal := Cert.ReferenceIdeal.Gen.facts) := fun m ρ m' ρ' _ hm =>
  ⟨fun c => PoolIdeal.G m c,
    (θ_run _ _ _).mono (fun _ h c => ⟨(h.1 c).2, (h.1 c).1⟩) (PoolIdeal.run_main (F := Ideal) m ρ),
    (θ_run Cert.ReferenceIdeal.defs _ _).mono
      (fun _ h c => ⟨(h c).1.trans ((RefValue.res_eq _).trans (congrArg (PoolIdeal.pooled (F := Ideal) (n := 16384)) (hm c))), (h c).2⟩)
      (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  quiescent_kernel, quiescent_kernelIdeal, quiescent_referenceIdeal, trivial, same_result⟩

end Cert.Proof

end
